-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_block_pattern [hPre_block_pattern : Cert.Pre_block_pattern.Facts] (m : (ℓ : Loc Cert.KernelIdeal.nD Cert.KernelIdeal.τ Cert.KernelIdeal.sig) → Buf (Elt Ideal) ℓ) : Prop :=
  ∀ c : Dev Cert.KernelIdeal.nD,
    (Cert.Pre_block_pattern.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_block_pattern.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_block_pattern.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_block_pattern.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_block_pattern.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_block_pattern.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_block_pattern.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_block_pattern.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_block_pattern.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_block_pattern [hPre_block_pattern : Cert.Pre_block_pattern.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_block_pattern.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_block_pattern.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_block_pattern.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_block_pattern.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_block_pattern.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_block_pattern.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_block_pattern.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_block_pattern.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_block_pattern.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_block_pattern [hKernelIdeal : Cert.KernelIdeal.Facts] [hPre_block_pattern : Cert.Pre_block_pattern.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_block_pattern m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_block_pattern [hReferenceIdeal : Cert.ReferenceIdeal.Facts] [hPre_block_pattern : Cert.Pre_block_pattern.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_block_pattern m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "log2e_inv_sqrt_d" .f32 0x3E38AA3B#32 (((Real.log 2)⁻¹ * (1 / 8) : ℝ) : EReal)

def algebraic_KernelIdeal_ReferenceIdeal_pre_block_pattern [hKernelIdeal : Cert.KernelIdeal.Facts] [hReferenceIdeal : Cert.ReferenceIdeal.Facts] [hPre_block_pattern : Cert.Pre_block_pattern.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_block_pattern m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_block_pattern : Cert.Pre_block_pattern.Facts),
    quiescent_Kernel (hKernel := hKernel)
    ∧ quiescent_KernelIdeal (hKernelIdeal := hKernelIdeal)
    ∧ quiescent_KernelIdeal_pre_block_pattern (hKernelIdeal := hKernelIdeal) (hPre_block_pattern := hPre_block_pattern)
    ∧ quiescent_ReferenceIdeal (hReferenceIdeal := hReferenceIdeal)
    ∧ quiescent_ReferenceIdeal_pre_block_pattern (hReferenceIdeal := hReferenceIdeal) (hPre_block_pattern := hPre_block_pattern)
    ∧ preserves_Kernel_KernelIdeal
    ∧ algebraic_KernelIdeal_ReferenceIdeal_pre_block_pattern (hKernelIdeal := hKernelIdeal) (hReferenceIdeal := hReferenceIdeal) (hPre_block_pattern := hPre_block_pattern)
-- ==== Pre_block_pattern.lean ====
abbrev S2048x2x1024 : Shape := ⟨3, ![2048, 2, 1024]⟩
abbrev S1024x1024 : Shape := ⟨2, ![1024, 1024]⟩
abbrev S1024 : Shape := ⟨1, ![1024]⟩
abbrev S65536 : Shape := ⟨1, ![65536]⟩
abbrev S64x32x32 : Shape := ⟨3, ![64, 32, 32]⟩
abbrev S_ : Shape := ⟨0, ![]⟩

class Facts : Prop where
  shapeCasts_S65536_S64x32x32 : S65536.ShapeCasts S64x32x32
  bcast_S_S64x32x32 : S_.BroadcastsInDim S64x32x32 (![] : Fin 0 → Fin S64x32x32.rank)
  bcast_S_S1024 : S_.BroadcastsInDim S1024 (![] : Fin 0 → Fin S1024.rank)
  bcast_S_S2048x2x1024 : S_.BroadcastsInDim S2048x2x1024 (![] : Fin 0 → Fin S2048x2x1024.rank)
  bcast_S_S1024x1024 : S_.BroadcastsInDim S1024x1024 (![] : Fin 0 → Fin S1024x1024.rank)

variable [Facts]

def fn_part1 {F : FTy → Type} [FloatOps F] (main_arg0 : FVec F S2048x2x1024 .f32) (main_arg1 : FVec F S1024x1024 .f32) (main_arg3 : FVec F S1024x1024 .f32) (main_arg4 : FVec F S1024 .f32) (main_v7 : IVec S64x32x32 1) (main_v12 : IVec S64x32x32 1) (main_v14 : IVec S1024 1) (main_v16 : IVec S1024 1) (main_v18 : IVec S1024 1) : IVec S64x32x32 1 × IVec S64x32x32 1 × IVec S1024 1 × IVec S1024 1 × IVec S1024 1 × IVec S2048x2x1024 1 × IVec S1024x1024 1 × IVec S1024x1024 1 × IVec S1024 1 :=
  let main_v19 : FVec F S2048x2x1024 .f32 := Host.absf main_arg0
  let main_cst_3 : FVec F S_ .f32 := constant S_ .f32 0x7F800000#32
  let main_v20 : FVec F S2048x2x1024 .f32 := broadcastInDim S2048x2x1024 ![] bcast_S_S2048x2x1024 main_cst_3
  let main_v21 : IVec S2048x2x1024 1 := cmpf .olt main_v19 main_v20
  let main_v22 : FVec F S1024x1024 .f32 := Host.absf main_arg1
  let main_cst_4 : FVec F S_ .f32 := constant S_ .f32 0x7F800000#32
  let main_v23 : FVec F S1024x1024 .f32 := broadcastInDim S1024x1024 ![] bcast_S_S1024x1024 main_cst_4
  let main_v24 : IVec S1024x1024 1 := cmpf .olt main_v22 main_v23
  let main_v25 : FVec F S1024x1024 .f32 := Host.absf main_arg3
  let main_cst_5 : FVec F S_ .f32 := constant S_ .f32 0x7F800000#32
  let main_v26 : FVec F S1024x1024 .f32 := broadcastInDim S1024x1024 ![] bcast_S_S1024x1024 main_cst_5
  let main_v27 : IVec S1024x1024 1 := cmpf .olt main_v25 main_v26
  let main_v28 : FVec F S1024 .f32 := Host.absf main_arg4
  let main_cst_6 : FVec F S_ .f32 := constant S_ .f32 0x7F800000#32
  let main_v29 : FVec F S1024 .f32 := broadcastInDim S1024 ![] bcast_S_S1024 main_cst_6
  let main_v30 : IVec S1024 1 := cmpf .olt main_v28 main_v29
  (main_v7, main_v12, main_v14, main_v16, main_v18, main_v21, main_v24, main_v27, main_v30)

def fn {F : FTy → Type} [FloatOps F] (main_arg0 : FVec F S2048x2x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : IVec S65536 32) (main_arg10 : IVec S65536 32) : IVec S64x32x32 1 × IVec S64x32x32 1 × IVec S1024 1 × IVec S1024 1 × IVec S1024 1 × IVec S2048x2x1024 1 × IVec S1024x1024 1 × IVec S1024x1024 1 × IVec S1024 1 :=
  let main_v0 : IVec S64x32x32 32 := iotaInDim S64x32x32 32 0
  let main_v1 : IVec S64x32x32 32 := iotaInDim S64x32x32 32 1
  let main_v2 : IVec S64x32x32 32 := iotaInDim S64x32x32 32 2
  let main_v3 : IVec S64x32x32 32 := shapeCast S64x32x32 main_arg9 shapeCasts_S65536_S64x32x32
  let main_c : IVec S_ 32 := constantI S_ 32 32#32
  let main_v4 : IVec S64x32x32 32 := broadcastInDim S64x32x32 ![] bcast_S_S64x32x32 main_c
  let main_v5 : IVec S64x32x32 32 := muli main_v4 main_v0
  let main_v6 : IVec S64x32x32 32 := addi main_v5 main_v1
  let main_v7 : IVec S64x32x32 1 := cmpi .eq main_v3 main_v6
  let main_v8 : IVec S64x32x32 32 := shapeCast S64x32x32 main_arg10 shapeCasts_S65536_S64x32x32
  let main_c_0 : IVec S_ 32 := constantI S_ 32 32#32
  let main_v9 : IVec S64x32x32 32 := broadcastInDim S64x32x32 ![] bcast_S_S64x32x32 main_c_0
  let main_v10 : IVec S64x32x32 32 := muli main_v9 main_v0
  let main_v11 : IVec S64x32x32 32 := addi main_v10 main_v2
  let main_v12 : IVec S64x32x32 1 := cmpi .eq main_v8 main_v11
  let main_cst : FVec F S_ .f32 := constant S_ .f32 0x00000000#32
  let main_v13 : FVec F S1024 .f32 := broadcastInDim S1024 ![] bcast_S_S1024 main_cst
  let main_v14 : IVec S1024 1 := cmpf .oeq main_arg2 main_v13
  let main_cst_1 : FVec F S_ .f32 := constant S_ .f32 0x00000000#32
  let main_v15 : FVec F S1024 .f32 := broadcastInDim S1024 ![] bcast_S_S1024 main_cst_1
  let main_v16 : IVec S1024 1 := cmpf .oeq main_arg6 main_v15
  let main_cst_2 : FVec F S_ .f32 := constant S_ .f32 0x00000000#32
  let main_v17 : FVec F S1024 .f32 := broadcastInDim S1024 ![] bcast_S_S1024 main_cst_2
  let main_v18 : IVec S1024 1 := cmpf .oeq main_arg8 main_v17
  fn_part1 (F := F) main_arg0 main_arg1 main_arg3 main_arg4 main_v7 main_v12 main_v14 main_v16 main_v18
-- ==== Kernel.lean ====
abbrev S2048x2x1024 : Shape := ⟨3, ![2048, 2, 1024]⟩
abbrev S1024x1024 : Shape := ⟨2, ![1024, 1024]⟩
abbrev S1024 : Shape := ⟨1, ![1024]⟩
abbrev S65536 : Shape := ⟨1, ![65536]⟩
abbrev S512x2x1024 : Shape := ⟨3, ![512, 2, 1024]⟩
abbrev S64x64 : Shape := ⟨2, ![64, 64]⟩
abbrev S1024x64 : Shape := ⟨2, ![1024, 64]⟩
abbrev S16x64x64 : Shape := ⟨3, ![16, 64, 64]⟩
abbrev S1x64x64 : Shape := ⟨3, ![1, 64, 64]⟩
abbrev S16x64 : Shape := ⟨2, ![16, 64]⟩
abbrev S16x64x1 : Shape := ⟨3, ![16, 64, 1]⟩

abbrev nBuf : Space → Nat
  | .hbm => 12
  | .vmem => 8
  | .smem => 0
  | _ => 0

abbrev bufTy : (tb : Table) → Fin (tcTables nBuf tb) → BufTy
  | .hbm, ⟨0, _⟩ => ⟨S2048x2x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S65536, .i32⟩
  | .hbm, ⟨10, _⟩ => ⟨S65536, .i32⟩
  | .hbm, ⟨11, _⟩ => ⟨S2048x2x1024, .f32⟩
  | .local _ .vmem, ⟨0, _⟩ => ⟨S512x2x1024, .f32⟩
  | .local _ .vmem, ⟨1, _⟩ => ⟨S512x2x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S512x2x1024, .f32⟩
  | .local _ .vmem, ⟨7, _⟩ => ⟨S512x2x1024, .f32⟩
  | _, _ => ⟨S2048x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "log2e_inv_sqrt_d" => some (((Real.log 2)⁻¹ * (1 / 8) : ℝ) : EReal)
  | _ => none
-- ==== ReferenceIdeal.lean ====
abbrev S2048x2x1024 : Shape := ⟨3, ![2048, 2, 1024]⟩
abbrev S1024x1024 : Shape := ⟨2, ![1024, 1024]⟩
abbrev S1024 : Shape := ⟨1, ![1024]⟩
abbrev S65536 : Shape := ⟨1, ![65536]⟩
abbrev S1x1x1024 : Shape := ⟨3, ![1, 1, 1024]⟩
abbrev S2048x2x16x64 : Shape := ⟨4, ![2048, 2, 16, 64]⟩
abbrev S_ : Shape := ⟨0, ![]⟩
abbrev S65536x1 : Shape := ⟨2, ![65536, 1]⟩
abbrev S65536x2x16x64 : Shape := ⟨4, ![65536, 2, 16, 64]⟩
abbrev S65536x2x16 : Shape := ⟨3, ![65536, 2, 16]⟩
abbrev S65536x2x16x1 : Shape := ⟨4, ![65536, 2, 16, 1]⟩
abbrev S2048x2x16x1 : Shape := ⟨4, ![2048, 2, 16, 1]⟩

abbrev nBuf : Space → Nat
  | .hbm => 98
  | .vmem => 0
  | .smem => 0
  | _ => 0

abbrev bufTy : (tb : Table) → Fin (tcTables nBuf tb) → BufTy
  | .hbm, ⟨0, _⟩ => ⟨S2048x2x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S65536, .i32⟩
  | .hbm, ⟨10, _⟩ => ⟨S65536, .i32⟩
  | .hbm, ⟨11, _⟩ => ⟨S1024x1024, .f32⟩
  | .hbm, ⟨12, _⟩ => ⟨S2048x2x1024, .f32⟩
  | .hbm, ⟨13, _⟩ => ⟨S1x1x1024, .f32⟩
  | .hbm, ⟨14, _⟩ => ⟨S2048x2x1024, .f32⟩
  | .hbm, ⟨15, _⟩ => ⟨S2048x2x1024, .f32⟩
  | .hbm, ⟨16, _⟩ => ⟨S1024x1024, .f32⟩
  | .hbm, ⟨17, _⟩ => ⟨S2048x2x1024, .f32⟩
  | .hbm, ⟨18, _⟩ => ⟨S1x1x1024, .f32⟩
  | .hbm, ⟨19, _⟩ => ⟨S2048x2x1024, .f32⟩
  | .hbm, ⟨20, _⟩ => ⟨S2048x2x1024, .f32⟩
  | .hbm, ⟨21, _⟩ => ⟨S1024x1024, .f32⟩
  | .hbm, ⟨22, _⟩ => ⟨S2048x2x1024, .f32⟩
  | .hbm, ⟨23, _⟩ => ⟨S1x1x1024, .f32⟩
  | .hbm, ⟨24, _⟩ => ⟨S2048x2x1024, .f32⟩
  | .hbm, ⟨25, _⟩ => ⟨S2048x2x1024, .f32⟩
  | .hbm, ⟨26, _⟩ => ⟨S2048x2x16x64, .f32⟩
  | .hbm, ⟨27, _⟩ => ⟨S2048x2x16x64, .f32⟩
  | .hbm, ⟨28, _⟩ => ⟨S2048x2x16x64, .f32⟩
  | .hbm, ⟨29, _⟩ => ⟨S_, .i32⟩
  | .hbm, ⟨30, _⟩ => ⟨S65536, .i32⟩
  | .hbm, ⟨31, _⟩ => ⟨S65536, .i1⟩
  | .hbm, ⟨32, _⟩ => ⟨S_, .i32⟩
  | .hbm, ⟨33, _⟩ => ⟨S65536, .i32⟩
  | .hbm, ⟨34, _⟩ => ⟨S65536, .i32⟩
  | .hbm, ⟨35, _⟩ => ⟨S65536, .i32⟩
  | .hbm, ⟨36, _⟩ => ⟨S65536x1, .i32⟩
  | .hbm, ⟨37, _⟩ => ⟨S65536x2x16x64, .f32⟩
  | .hbm, ⟨38, _⟩ => ⟨S_, .i32⟩
  | .hbm, ⟨39, _⟩ => ⟨S65536, .i32⟩
  | .hbm, ⟨40, _⟩ => ⟨S65536, .i1⟩
  | .hbm, ⟨41, _⟩ => ⟨S_, .i32⟩
  | .hbm, ⟨42, _⟩ => ⟨S65536, .i32⟩
  | .hbm, ⟨43, _⟩ => ⟨S65536, .i32⟩
  | .hbm, ⟨44, _⟩ => ⟨S65536, .i32⟩
  | .hbm, ⟨45, _⟩ => ⟨S65536x1, .i32⟩
  | .hbm, ⟨46, _⟩ => ⟨S65536x2x16x64, .f32⟩
  | .hbm, ⟨47, _⟩ => ⟨S65536x2x16, .f32⟩
  | .hbm, ⟨48, _⟩ => ⟨S65536x2x16x1, .f32⟩
  | .hbm, ⟨49, _⟩ => ⟨S_, .f32⟩
  | .hbm, ⟨50, _⟩ => ⟨S65536x2x16x1, .f32⟩
  | .hbm, ⟨51, _⟩ => ⟨S65536x2x16x1, .f32⟩
  | .hbm, ⟨52, _⟩ => ⟨S_, .f32⟩
  | .hbm, ⟨53, _⟩ => ⟨S_, .f32⟩
  | .hbm, ⟨54, _⟩ => ⟨S65536x2x16x1, .f32⟩
  | .hbm, ⟨55, _⟩ => ⟨S65536x2x16x1, .f32⟩
  | .hbm, ⟨56, _⟩ => ⟨S65536x2x16x1, .f32⟩
  | .hbm, ⟨57, _⟩ => ⟨S_, .f32⟩
  | .hbm, ⟨58, _⟩ => ⟨S2048x2x16x1, .f32⟩
  | .hbm, ⟨59, _⟩ => ⟨S_, .i32⟩
  | .hbm, ⟨60, _⟩ => ⟨S65536, .i32⟩
  | .hbm, ⟨61, _⟩ => ⟨S65536, .i1⟩
  | .hbm, ⟨62, _⟩ => ⟨S_, .i32⟩
  | .hbm, ⟨63, _⟩ => ⟨S65536, .i32⟩
  | .hbm, ⟨64, _⟩ => ⟨S65536, .i32⟩
  | .hbm, ⟨65, _⟩ => ⟨S65536, .i32⟩
  | .hbm, ⟨66, _⟩ => ⟨S65536x1, .i32⟩
  | .hbm, ⟨67, _⟩ => ⟨S2048x2x16x1, .f32⟩
  | .hbm, ⟨68, _⟩ => ⟨S_, .i32⟩
  | .hbm, ⟨69, _⟩ => ⟨S65536, .i32⟩
  | .hbm, ⟨70, _⟩ => ⟨S65536, .i1⟩
  | .hbm, ⟨71, _⟩ => ⟨S_, .i32⟩
  | .hbm, ⟨72, _⟩ => ⟨S65536, .i32⟩
  | .hbm, ⟨73, _⟩ => ⟨S65536, .i32⟩
  | .hbm, ⟨74, _⟩ => ⟨S65536, .i32⟩
  | .hbm, ⟨75, _⟩ => ⟨S65536x1, .i32⟩
  | .hbm, ⟨76, _⟩ => ⟨S65536x2x16x64, .f32⟩
  | .hbm, ⟨77, _⟩ => ⟨S65536x2x16x64, .f32⟩
  | .hbm, ⟨78, _⟩ => ⟨S65536x2x16x64, .f32⟩
  | .hbm, ⟨79, _⟩ => ⟨S_, .f32⟩
  | .hbm, ⟨80, _⟩ => ⟨S2048x2x16x64, .f32⟩
  | .hbm, ⟨81, _⟩ => ⟨S_, .i32⟩
  | .hbm, ⟨82, _⟩ => ⟨S65536, .i32⟩
  | .hbm, ⟨83, _⟩ => ⟨S65536, .i1⟩
  | .hbm, ⟨84, _⟩ => ⟨S_, .i32⟩
  | .hbm, ⟨85, _⟩ => ⟨S65536, .i32⟩
  | .hbm, ⟨86, _⟩ => ⟨S65536, .i32⟩
  | .hbm, ⟨87, _⟩ => ⟨S65536, .i32⟩
  | .hbm, ⟨88, _⟩ => ⟨S65536x1, .i32⟩
  | .hbm, ⟨89, _⟩ => ⟨S2048x2x16x64, .f32⟩
  | .hbm, ⟨90, _⟩ => ⟨S2048x2x16x64, .f32⟩
  | .hbm, ⟨91, _⟩ => ⟨S2048x2x16x64, .f32⟩
  | .hbm, ⟨92, _⟩ => ⟨S2048x2x1024, .f32⟩
  | .hbm, ⟨93, _⟩ => ⟨S1024x1024, .f32⟩
  | .hbm, ⟨94, _⟩ => ⟨S2048x2x1024, .f32⟩
  | .hbm, ⟨95, _⟩ => ⟨S1x1x1024, .f32⟩
  | .hbm, ⟨96, _⟩ => ⟨S2048x2x1024, .f32⟩
  | .hbm, ⟨97, _⟩ => ⟨S2048x2x1024, .f32⟩
  | _, _ => ⟨S2048x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_1 : Ref sig .tc := ⟨.hbm, 38, rfl⟩
abbrev main_v25 : Ref sig .tc := ⟨.hbm, 39, rfl⟩
abbrev main_v26 : Ref sig .tc := ⟨.hbm, 40, rfl⟩
abbrev main_c_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_c_5 : Ref sig .tc := ⟨.hbm, 59, rfl⟩
abbrev main_v41 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_7 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== Proof.Spec.lean ====
/- The attention the two programs compute, written over the arguments' elements. -/
module

public import proofs.«01_k».proof.Proof.Gen.KernelIdeal
public import Idealize.ShloMosaic.Lib.Pointwise

@[expose] public section

noncomputable section

namespace Cert.Spec

open Idealize.ShloMosaic

/-- The array `[2048, 2, 1024]`. -/
abbrev Seq : Type := FVec Ideal (⟨3, ![2048, 2, 1024]⟩ : Shape) .f32

/-- The array `[1024, 1024]`. -/
abbrev Mat : Type := FVec Ideal (⟨2, ![1024, 1024]⟩ : Shape) .f32

/-- Element `(s, b, d)` of a projection of `x` by `w`, whose rows are the output columns. -/
def proj (x : Seq) (w : Mat) (s : Fin 2048) (b : Fin 2) (d : Fin 1024) : EReal :=
  ∑ c : Fin 1024, (x (ix3 s b c) : EReal) * (w (ix2 d c) : EReal)

/-- Column `c` of head `h`. -/
def col (h : Fin 16) (c : Fin 64) : Fin 1024 := ⟨h.val * 64 + c.val, by omega⟩

/-- The `t`-th sequence position of the block of 32 that holds position `s`. -/
def mate (s : Fin 2048) (t : Fin 32) : Fin 2048 := ⟨s.val / 32 * 32 + t.val, by omega⟩

/-- The score of position `s` with the `t`-th position of its block, in batch `b` and head `h`. -/
def score (x : Seq) (wq wk : Mat) (s : Fin 2048) (b : Fin 2) (h : Fin 16) (t : Fin 32) : EReal :=
  ∑ c : Fin 64, proj x wq s b (col h c) * proj x wk (mate s t) b (col h c)

/-- The unnormalised weight of a score, by the exponential to base two. -/
def weight (z : EReal) : EReal :=
  Ideal.exp2 (z * (Named.named (F := Ideal) Cert.KernelIdeal.κ "log2e_inv_sqrt_d" (φ := .f32) 0x3E38AA3B#32 : EReal))

/-- Element `(s, b, h, c)` of the attention: the weighted sum of the block's value rows over the sum of the weights. -/
def attn (x : Seq) (wq wk wv : Mat) (s : Fin 2048) (b : Fin 2) (h : Fin 16) (c : Fin 64) : EReal :=
  (∑ t : Fin 32, weight (score x wq wk s b h t) * proj x wv (mate s t) b (col h c))
    * Ideal.div 1 (∑ t : Fin 32, weight (score x wq wk s b h t))

/-- Element `(s, b, n)` of the output projection of the attention. -/
def out (x : Seq) (wq wk wv wx : Mat) (s : Fin 2048) (b : Fin 2) (n : Fin 1024) : EReal :=
  ∑ d : Fin 1024, attn x wq wk wv s b ⟨d.val / 64, by omega⟩ ⟨d.val % 64, by omega⟩ * (wx (ix2 n d) : EReal)

end Cert.Spec

end
-- ==== Proof.Head.lean ====
/- One attention head of the fused kernel, stated once for every column offset, and read at an index. -/
module

public import proofs.«01_k».proof.Proof.Gen.KernelIdeal.Skeleton
public import proofs.«01_k».proof.Proof.Spec
public import Idealize.ShloMosaic.Lib.Pointwise

@[expose] public section

noncomputable section

namespace Cert.KernelIdeal.Head

open Cert.KernelIdeal Cert.KernelIdeal.Gen Idealize.ShloMosaic

/-- The scores of the head whose columns start at `o`: for each group of 64 rows, the products of its query rows
    with its key rows over the head's 64 columns. -/
def score (o : Nat) (hs : S1024x1024.Slices ![0, o] S1024x64) (q k : FVec Ideal S1024x1024 .f32) :
    FVec Ideal S16x64x64 .f32 :=
  matmul dot_S16x64x64_S16x64x64_S16x64x64_2_2_1_1_0_0 none
    (shapeCast S16x64x64 (extractStridedSlice S1024x64 ![0, o] q hs) shapeCasts_S1024x64_S16x64x64)
    (shapeCast S16x64x64 (extractStridedSlice S1024x64 ![0, o] k hs) shapeCasts_S1024x64_S16x64x64)
    (constant S16x64x64 .f32 0x00000000#32)

/-- The masked exponentials of a head's scores. -/
def weight (mask : FVec Ideal S64x64 .f32) (s : FVec Ideal S16x64x64 .f32) : FVec Ideal S16x64x64 .f32 :=
  mulf (exp2 (mulf s (broadcast S16x64x64 (Named.named κ "log2e_inv_sqrt_d" 0x3E38AA3B#32))))
    (broadcastTo S16x64x64 (shapeCast S1x64x64 mask shapeCasts_S64x64_S1x64x64) broadcasts_S1x64x64_S16x64x64)

/-- The weighted sum of a head's value rows, scaled by the reciprocal of the sum of the weights. -/
def mix (o : Nat) (hs : S1024x1024.Slices ![0, o] S1024x64) (v : FVec Ideal S1024x1024 .f32)
    (e : FVec Ideal S16x64x64 .f32) : FVec Ideal S16x64x64 .f32 :=
  mulf (matmul dot_S16x64x64_S16x64x64_S16x64x64_2_1_1_2_0_0 none e
      (shapeCast S16x64x64 (extractStridedSlice S1024x64 ![0, o] v hs) shapeCasts_S1024x64_S16x64x64)
      (constant S16x64x64 .f32 0x00000000#32))
    (broadcastTo S16x64x64
      (divf (broadcast S16x64x1 (Scalar.ofBits .f32 0x3F800000#32))
        (shapeCast S16x64x1
          (multiReduction .add [2] S16x64 e 0x00000000#32 reduces_S16x64x64_S16x64 (.inl rfl) rfl)
          shapeCasts_S16x64_S16x64x1))
      broadcasts_S16x64x1_S16x64x64)

/-- The head whose columns start at `o`, from the three projections and the mask. -/
def head (o : Nat) (hs : S1024x1024.Slices ![0, o] S1024x64) (q k v : FVec Ideal S1024x1024 .f32)
    (mask : FVec Ideal S64x64 .f32) : FVec Ideal S1024x64 .f32 :=
  shapeCast S1024x64 (mix o hs v (weight mask (score o hs q k))) shapeCasts_S16x64x64_S1024x64

set_option maxRecDepth 16384 in
/-- A head's score at group `g`, query row `i`, key row `j`. -/
theorem score_apply (o : Nat) (hs : S1024x1024.Slices ![0, o] S1024x64) (q k : FVec Ideal S1024x1024 .f32)
    (ho : o + 64 ≤ 1024) (g : Fin 16) (i j : Fin 64) :
    score o hs q k (ix3 g i j) = ∑ c : Fin 64,
      (q (ix2 ⟨g.val * 64 + i.val, by omega⟩ ⟨o + c.val, by omega⟩) : EReal)
        * (k (ix2 ⟨g.val * 64 + j.val, by omega⟩ ⟨o + c.val, by omega⟩) : EReal) := by
  pointwise [score]

set_option maxRecDepth 16384 in
/-- A head at row `n`, column `c`: the masked weighted sum of the value rows of `n`'s group times the reciprocal of the
    sum of the masked weights. -/
theorem head_apply (o : Nat) (hs : S1024x1024.Slices ![0, o] S1024x64) (q k v : FVec Ideal S1024x1024 .f32)
    (mask : FVec Ideal S64x64 .f32) (ho : o + 64 ≤ 1024) (n : Fin 1024) (c : Fin 64) :
    head o hs q k v mask (ix2 n c)
      = (∑ j : Fin 64, Spec.weight (score o hs q k (ix3 ⟨n.val / 64, by omega⟩ ⟨n.val % 64, by omega⟩ j))
            * (mask (ix2 ⟨n.val % 64, by omega⟩ j) : EReal)
            * (v (ix2 ⟨n.val / 64 * 64 + j.val, by omega⟩ ⟨o + c.val, by omega⟩) : EReal))
        * Ideal.div 1 (∑ j : Fin 64, Spec.weight (score o hs q k (ix3 ⟨n.val / 64, by omega⟩ ⟨n.val % 64, by omega⟩ j))
            * (mask (ix2 ⟨n.val % 64, by omega⟩ j) : EReal)) := by
  pointwise [head, mix, weight]
  rfl

/-- A sum over 64 rows that vanishes off the rows of one parity is the sum over the 32 rows of that parity. -/
theorem sum_parity (f : Fin 64 → EReal) (b : Fin 2) (hz : ∀ j : Fin 64, j.val % 2 ≠ b.val → f j = 0) :
    ∑ j : Fin 64, f j = ∑ t : Fin 32, f ⟨2 * t.val + b.val, by omega⟩ := by
  symm
  refine Finset.sum_of_injOn (fun t : Fin 32 => (⟨2 * t.val + b.val, by omega⟩ : Fin 64)) ?_ ?_ ?_ ?_
  · intro t _ t' _ h
    have := Fin.mk.inj_iff.1 h
    exact Fin.ext (by omega)
  · intro t _; exact Finset.mem_coe.2 (Finset.mem_univ _)
  · intro j _ hj
    refine hz j fun hb => hj ⟨⟨j.val / 2, by omega⟩, Finset.mem_coe.2 (Finset.mem_univ _), Fin.ext ?_⟩
    show 2 * (j.val / 2) + b.val = j.val
    omega
  · intro t _; rfl

/-- The sequence position of row `n` of block `T`. -/
def pos (T : Fin 4) (n : Fin 1024) : Fin 2048 := ⟨512 * T.val + n.val / 2, by omega⟩

/-- The batch of row `n`. -/
def batch (n : Fin 1024) : Fin 2 := ⟨n.val % 2, by omega⟩

/-- A head over projections of block `T` of the sequence, under the mask that keeps rows of one batch together, is the
    attention of that head. -/
theorem head_eq (x : Spec.Seq) (wq wk wv : Spec.Mat) (T : Fin 4) (q k v : FVec Ideal S1024x1024 .f32)
    (mask : FVec Ideal S64x64 .f32)
    (hq : ∀ n d, q (ix2 n d) = Spec.proj x wq (pos T n) (batch n) d)
    (hk : ∀ n d, k (ix2 n d) = Spec.proj x wk (pos T n) (batch n) d)
    (hv : ∀ n d, v (ix2 n d) = Spec.proj x wv (pos T n) (batch n) d)
    (hm : ∀ i j : Fin 64, mask (ix2 i j) = if i.val % 2 = j.val % 2 then (1 : EReal) else 0)
    (o : Nat) (hs : S1024x1024.Slices ![0, o] S1024x64) (h : Fin 16) (ho : o = h.val * 64) (n : Fin 1024) (c : Fin 64) :
    head o hs q k v mask (ix2 n c) = Spec.attn x wq wk wv (pos T n) (batch n) h c := by
  subst ho
  have hb : (batch n).val = n.val % 2 := rfl
  have row : ∀ t : Fin 32, (n.val / 64 * 64 + (2 * t.val + (batch n).val)) < 1024 := fun t => by omega
  have hpos : ∀ t : Fin 32, pos T ⟨n.val / 64 * 64 + (2 * t.val + (batch n).val), row t⟩ = Spec.mate (pos T n) t := fun t =>
    Fin.ext (by simp only [pos, Spec.mate]; omega)
  have hbat : ∀ t : Fin 32, batch ⟨n.val / 64 * 64 + (2 * t.val + (batch n).val), row t⟩ = batch n := fun t =>
    Fin.ext (by simp only [batch]; omega)
  have hself : (⟨n.val / 64 * 64 + n.val % 64, by omega⟩ : Fin 1024) = n := Fin.ext (by simp only []; omega)
  have hsc : ∀ t : Fin 32, score (h.val * 64) hs q k (ix3 ⟨n.val / 64, by omega⟩ ⟨n.val % 64, by omega⟩
      ⟨2 * t.val + (batch n).val, by omega⟩) = Spec.score x wq wk (pos T n) (batch n) h t := fun t => by
    rw [score_apply _ _ _ _ (by omega)]
    unfold Spec.score
    refine Finset.sum_congr rfl fun e _ => ?_
    rw [hq, hk, hself, hpos, hbat]
    rfl
  have hN : ∀ j : Fin 64, j.val % 2 ≠ (batch n).val → ¬ n.val % 64 % 2 = j.val % 2 := fun j hj => by omega
  rw [head_apply _ _ _ _ _ _ (by omega)]
  rw [sum_parity _ (batch n), sum_parity _ (batch n)]
  · unfold Spec.attn
    have hP : ∀ t : Fin 32, n.val % 64 % 2 = (2 * t.val + (batch n).val) % 2 := fun t => by omega
    congr 1
    · refine Finset.sum_congr rfl fun t _ => ?_
      rw [hm, if_pos (hP t), mul_one, hsc, hv, hpos, hbat]
      rfl
    · congr 1
      refine Finset.sum_congr rfl fun t _ => ?_
      rw [hm, if_pos (hP t), mul_one, hsc]
  · intro j hj
    rw [hm, if_neg (hN j hj), mul_zero]
  · intro j hj
    rw [hm, if_neg (hN j hj), mul_zero, zero_mul]

end Cert.KernelIdeal.Head

end
-- ==== Proof.Block.lean ====
/- The block one grid point of the fused kernel writes, read at an index. -/
module

public import proofs.«01_k».proof.Proof.Head
public import proofs.«01_k».proof.Proof.Gen.KernelIdeal.Value

@[expose] public section

noncomputable section

namespace Cert.KernelIdeal.Block

open Cert.KernelIdeal Cert.KernelIdeal.Gen Cert.KernelIdeal.Head Idealize.ShloMosaic Idealize.SL.Sem

/-- Choosing between one and zero by a bit that decides `P`. -/
theorem select_of_bit {c : BitVec 1} {P : Prop} [Decidable P] (h : c = BitVec.ofBool (decide P)) :
    Scalar.select c (1 : EReal) 0 = if P then 1 else 0 := by
  subst h
  by_cases hP : P
  · simp only [hP, decide_true, if_true]; rfl
  · simp only [hP, decide_false, if_false]; rfl

set_option maxRecDepth 16384 in
/-- The kernel's mask is one where the two rows of a group have the same parity and zero elsewhere. -/
theorem mask_apply (x0 : Vec Ideal S512x2x1024 .f32) (x1 x2 x3 x4 : Vec Ideal S1024x1024 .f32) (i j : Fin 64) :
    k0_pay60 (F := Ideal) x0 x1 x2 x3 x4 (ix2 i j) = if i.val % 2 = j.val % 2 then (1 : EReal) else 0 := by
  pointwise [k0_pay60, k0_pay17, k0_pay16, k0_pay15, k0_pay14, k0_pay13, k0_pay12, k0_pay11, k0_pay10, k0_pay9, k0_pay56]
  refine select_of_bit ?_
  clear x0 x1 x2 x3 x4
  revert i j
  decide +kernel

set_option maxRecDepth 16384 in
/-- A projection of a block whose rows are those of block `T` of the sequence, at row `n` and column `d`. -/
theorem proj_apply (x : Spec.Seq) (T : Fin 4) (x0 : Vec Ideal S512x2x1024 .f32)
    (hx : ∀ (s : Fin 512) (b : Fin 2) (c : Fin 1024), x0 (ix3 s b c) = x (ix3 ⟨512 * T.val + s.val, by omega⟩ b c))
    (w : Vec Ideal S1024x1024 .f32) (n d : Fin 1024) :
    k0_pay6 (F := Ideal) x0 w (ix2 n d) = Spec.proj x w (pos T n) (batch n) d := by
  pointwise [k0_pay6, k0_pay5]
  unfold Spec.proj
  refine Finset.sum_congr rfl fun c _ => ?_
  rw [hx]
  rfl

set_option maxRecDepth 16384 in
/-- The output projection of a block at an index. -/
theorem outp_apply (a : FVec Ideal S1024x1024 .f32) (w : Vec Ideal S1024x1024 .f32) (s : Fin 512) (b : Fin 2) (n : Fin 1024) :
    k0_pay4 (F := Ideal) a w (ix3 s b n)
      = ∑ d : Fin 1024, (a (ix2 ⟨s.val * 2 + b.val, by omega⟩ d) : EReal) * (w (ix2 n d) : EReal) := by
  pointwise [k0_pay4]

/-- Sixteen pieces of 64 columns side by side: column `d` is column `d % 64` of piece `d / 64`. -/
theorem sideBySide (f : Fin 16 → Fin 1024 → Fin 64 → EReal) (y : Fin 16 → FVec Ideal S1024x64 .f32) (z : FVec Ideal S16x64x64 .f32)
    (hz : shapeCast S1024x64 z shapeCasts_S16x64x64_S1024x64 = y 15)
    (hy : ∀ (h : Fin 16) (n : Fin 1024) (c : Fin 64), y h (ix2 n c) = f h n c) (n d : Fin 1024) :
    k0_pay3 (F := Ideal) (y 0) (y 1) (y 2) (y 3) (y 4) (y 5) (y 6) (y 7) (y 8) (y 9) (y 10) (y 11) (y 12) (y 13) (y 14) z (ix2 n d)
      = f ⟨d.val / 64, by omega⟩ n ⟨d.val % 64, by omega⟩ := by
  unfold k0_pay3
  rw [hz]
  have hcat : Shape.Concatenates ((List.ofFn fun h : Fin 16 => (⟨S1024x64, y h⟩ : (s : Shape) × (s.Idx → EReal))).map (·.1))
      S1024x1024 1 := concatenates_S1024x64_S1024x64_S1024x64_S1024x64_S1024x64_S1024x64_S1024x64_S1024x64_S1024x64_S1024x64_S1024x64_S1024x64_S1024x64_S1024x64_S1024x64_S1024x64_S1024x1024_d1
  refine Eq.trans (b := y ⟨d.val / 64, by omega⟩ (ix2 n ⟨d.val % 64, by omega⟩)) ?_ (hy _ _ _)
  refine Eq.trans (b := concatenate S1024x1024 1 (List.ofFn fun h : Fin 16 => (⟨S1024x64, y h⟩ : (s : Shape) × (s.Idx → EReal)))
    hcat (ix2 n d)) rfl ?_
  refine concatenate_ofFn_apply (s₁ := S1024x64) 1 y hcat rfl 64 rfl (ix2 n d) ⟨d.val / 64, by omega⟩ rfl _ rfl ?_
  intro b hb
  fin_cases b
  · rfl
  · exact absurd rfl hb

/-- The 64 columns of head `h` lie within the 1024. -/
theorem slice_at : ∀ h : Fin 16, S1024x1024.Slices ![0, h.val * 64] S1024x64 := by decide +kernel

/-- Head `h` of a block. -/
def piece (x0 : Vec Ideal S512x2x1024 .f32) (x1 x2 x3 x4 : Vec Ideal S1024x1024 .f32) (h : Fin 16) : FVec Ideal S1024x64 .f32 :=
  head (h.val * 64) (slice_at h) (k0_pay6 x0 x1) (k0_pay6 x0 x2) (k0_pay6 x0 x3) (k0_pay60 x0 x1 x2 x3 x4)

set_option maxRecDepth 16384 in
/-- What a grid point leaves in the output block, with the sixteen heads written as one head at sixteen offsets. -/
theorem out_heads (x0 : Vec Ideal S512x2x1024 .f32) (x1 x2 x3 x4 : Vec Ideal S1024x1024 .f32) (y : Fin 16 → FVec Ideal S1024x64 .f32)
    (z : FVec Ideal S16x64x64 .f32) (hy : y = piece x0 x1 x2 x3 x4)
    (hz : z = mix 960 slices_S1024x1024_o0_960_S1024x64 (k0_pay6 x0 x3) (weight (k0_pay60 x0 x1 x2 x3 x4)
      (score 960 slices_S1024x1024_o0_960_S1024x64 (k0_pay6 x0 x1) (k0_pay6 x0 x2)))) :
    out0_5 x0 x1 x2 x3 x4 = k0_pay4 (k0_pay3 (y 0) (y 1) (y 2) (y 3) (y 4) (y 5) (y 6) (y 7) (y 8) (y 9) (y 10) (y 11)
      (y 12) (y 13) (y 14) z) x4 := by
  subst hy hz
  unfold out0_5
  refine (View.canon_unit_zero (by decide) _ _).trans ?_
  have l0 : View.ld x0 r0_0 = x0 := View.ld_unit_zero (by decide) _ x0
  have l1 : View.ld x1 r0_1 = x1 := View.ld_unit_zero (by decide) _ x1
  have l2 : View.ld x2 r0_1 = x2 := View.ld_unit_zero (by decide) _ x2
  have l3 : View.ld x3 r0_1 = x3 := View.ld_unit_zero (by decide) _ x3
  have l4 : View.ld x4 r0_1 = x4 := View.ld_unit_zero (by decide) _ x4
  have hq : k0_pay57 x0 x1 x2 x3 x4 = k0_pay6 x0 x1 := by unfold k0_pay57; rw [l0, l1]
  have hk : k0_pay58 x0 x1 x2 x3 x4 = k0_pay6 x0 x2 := by unfold k0_pay58; rw [l0, l2]; rfl
  have hv : k0_pay59 x0 x1 x2 x3 x4 = k0_pay6 x0 x3 := by unfold k0_pay59; rw [l0, l3]; rfl
  unfold k0_pay61
  rw [hq, hk, hv, l4]
  rfl

/-- The block a grid point leaves, where its rows are those of block `T` of the sequence, is block `T` of the result. -/
theorem out_apply (x : Spec.Seq) (T : Fin 4) (x0 : Vec Ideal S512x2x1024 .f32)
    (hx : ∀ (s : Fin 512) (b : Fin 2) (c : Fin 1024), x0 (ix3 s b c) = x (ix3 ⟨512 * T.val + s.val, by omega⟩ b c))
    (wq wk wv wx : Vec Ideal S1024x1024 .f32) (s : Fin 512) (b : Fin 2) (n : Fin 1024) :
    out0_5 x0 wq wk wv wx (ix3 s b n) = Spec.out x wq wk wv wx ⟨512 * T.val + s.val, by omega⟩ b n := by
  rw [out_heads x0 wq wk wv wx _ _ rfl rfl, outp_apply]
  unfold Spec.out
  refine Finset.sum_congr rfl fun d _ => ?_
  congr 1
  refine (sideBySide (fun h n c => Spec.attn x wq wk wv (pos T n) (batch n) h c) (piece x0 wq wk wv wx) _ rfl (fun h n c =>
    head_eq x wq wk wv T _ _ _ _ (proj_apply x T x0 hx wq) (proj_apply x T x0 hx wk) (proj_apply x T x0 hx wv)
      (mask_apply x0 wq wk wv wx) _ _ _ rfl n c) _ _).trans ?_
  congr 1
  · exact Fin.ext (by simp only [pos]; omega)
  · exact Fin.ext (by simp only [batch]; omega)

end Cert.KernelIdeal.Block

end
-- ==== Proof.Array.lean ====
/- The fused kernel's output array after the run. -/
module

public import proofs.«01_k».proof.Proof.Block
public import Idealize.ShloMosaic.Lib.Claim
public import Idealize.ShloMosaic.Lib.Pipeline.ValueKit

@[expose] public section

noncomputable section

namespace Cert.KernelIdeal.Array

open Cert.KernelIdeal Cert.KernelIdeal.Gen Idealize.ShloMosaic Idealize.ShloMosaic.TcCoe Idealize.SL.Sem

variable (m : (ℓ : Loc nD τ sig) → Buf (Elt Ideal) ℓ) (c : Dev nD)

/-- The whole result array. -/
def G : S2048x2x1024.Idx → EReal := fun i =>
  Spec.out (m ((c : Thread nD τ).loc main_arg0)) (m ((c : Thread nD τ).loc main_arg1)) (m ((c : Thread nD τ).loc main_arg3))
    (m ((c : Thread nD τ).loc main_arg5)) (m ((c : Thread nD τ).loc main_arg7)) (i 0) (i 1) (i 2)

/-- Where each window's block lies at each grid point: windows 0 and 5 move along the sequence, the others are whole matrices. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] := by decide +kernel

/-- The first window's block at a point is 512 rows of the sequence. -/
theorem rows (t : Fin cfg0.N) (s : Fin 512) (b : Fin 2) (k : Fin 1024) :
    iblk m c 0 t (ix3 s b k) = m ((c : Thread nD τ).loc main_arg0)
      (ix3 ⟨512 * (t.val % 4) + s.val, by omega⟩ b k) := by
  have ht : t.val < 4 := lt_of_lt_of_eq t.isLt N_0
  blk_ext [iblk, V, idx t]

/-- The second window's block is the whole query matrix. -/
theorem whole1 (t : Fin cfg0.N) : iblk m c 1 t = m ((c : Thread nD τ).loc main_arg1) := by
  funext j; blk_ext [iblk, V, idx t]

/-- The third window's block is the whole key matrix. -/
theorem whole2 (t : Fin cfg0.N) : iblk m c 2 t = m ((c : Thread nD τ).loc main_arg3) := by
  funext j; blk_ext [iblk, V, idx t]

/-- The fourth window's block is the whole value matrix. -/
theorem whole3 (t : Fin cfg0.N) : iblk m c 3 t = m ((c : Thread nD τ).loc main_arg5) := by
  funext j; blk_ext [iblk, V, idx t]

/-- The fifth window's block is the whole output matrix. -/
theorem whole4 (t : Fin cfg0.N) : iblk m c 4 t = m ((c : Thread nD τ).loc main_arg7) := by
  funext j; blk_ext [iblk, V, idx t]

/-- After the run the output array is `G`. -/
theorem final : (dats m 0 c).arrAt 5 cfg0.N = G m c := by
  refine (dats m 0 c).arrAt_eq_of_covers 5 _ (by decide +kernel) fun t hf y => ?_
  have ht : t.val < 4 := lt_of_lt_of_eq t.isLt N_0
  blk_simp
  rw [after0_5, whole1, whole2, whole3, whole4]
  have hy : y = ix3 (y 0) (y 1) (y 2) := by blk_ext
  have hv := Block.out_apply (m ((c : Thread nD τ).loc main_arg0)) ⟨t.val % 4, by omega⟩ (iblk m c 0 t) (rows m c t)
    (m ((c : Thread nD τ).loc main_arg1)) (m ((c : Thread nD τ).loc main_arg3)) (m ((c : Thread nD τ).loc main_arg5))
    (m ((c : Thread nD τ).loc main_arg7)) (y 0) (y 1) (y 2)
  have he : (win0_5.blk t).view.emb y = ix3 ⟨512 * (t.val % 4) + (y 0).val, by have : (y 0).val < 512 := (y 0).isLt; omega⟩ (y 1) (y 2) := by
    blk_ext [idx t]
  generalize (win0_5.blk t).view.emb y = z at he ⊢
  subst he
  exact (congrArg _ hy).trans hv

end Cert.KernelIdeal.Array

end
-- ==== Proof.Softmax.lean ====
/- Facts about the extended reals behind a softmax: its weights are real, and a common positive factor of the weights
   cancels. -/
module

public import proofs.«01_k».proof.Proof.Spec

@[expose] public section

noncomputable section

namespace Cert.Softmax

open Idealize.ShloMosaic

/-- An extended real that is a real number. -/
def IsReal (x : EReal) : Prop := ∃ r : ℝ, x = (r : EReal)

/-- A sum of real numbers, taken in the extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A sum of reals is real. -/
theorem IsReal.sum {ι : Type} {s : Finset ι} {f : ι → EReal} (h : ∀ i, IsReal (f i)) : IsReal (∑ i ∈ s, f i) := by
  choose r hr using h
  exact ⟨∑ i ∈ s, r i, by rw [coe_sum]; exact Finset.sum_congr rfl fun i _ => hr i⟩

/-- A product of reals is real. -/
theorem IsReal.mul {x y : EReal} (hx : IsReal x) (hy : IsReal y) : IsReal (x * y) := by
  obtain ⟨r, rfl⟩ := hx
  obtain ⟨q, rfl⟩ := hy
  exact ⟨r * q, (EReal.coe_mul r q).symm⟩

/-- A sum of two reals is real. -/
theorem IsReal.add {x y : EReal} (hx : IsReal x) (hy : IsReal y) : IsReal (x + y) := by
  obtain ⟨r, rfl⟩ := hx
  obtain ⟨q, rfl⟩ := hy
  exact ⟨r + q, (EReal.coe_add r q).symm⟩

/-- The greatest of finitely many reals, at least one, is real. -/
theorem IsReal.max {ι : Type} {s : Finset ι} (hs : s.Nonempty) {f : ι → EReal} (h : ∀ i, IsReal (f i)) :
    IsReal (s.fold max ⊥ f) := by
  obtain ⟨i, _, hi⟩ := Finset.exists_mem_eq_sup s hs f
  exact (congrArg IsReal hi.symm).mp (h i)

/-- A factor that is a nonnegative real comes out of a sum of extended reals. -/
theorem mul_sum {ι : Type} (s : Finset ι) (C : ℝ) (hC : 0 ≤ C) (f : ι → EReal) :
    ∑ i ∈ s, (C : EReal) * f i = (C : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.2 hC) (EReal.coe_ne_top C)]

/-- The quotient of a weighted sum by the sum of the weights does not change when a positive factor is taken out of
    every weight. -/
theorem ratio (C : ℝ) (hC : 0 < C) (e : Fin 32 → ℝ) (he : ∀ t, 0 < e t) (v : Fin 32 → EReal) :
    Ideal.div (∑ t, ((C * e t : ℝ) : EReal) * v t) (∑ t, ((C * e t : ℝ) : EReal))
      = (∑ t, (e t : EReal) * v t) * Ideal.div 1 (∑ t, (e t : EReal)) := by
  have hE : (0 : ℝ) < ∑ t, e t := Finset.sum_pos (fun t _ => he t) Finset.univ_nonempty
  have hCE : ∑ t, ((C * e t : ℝ) : EReal) = ((C * ∑ t, e t : ℝ) : EReal) := by
    rw [Finset.mul_sum, coe_sum]
  have hN : ∑ t, ((C * e t : ℝ) : EReal) * v t = (C : EReal) * ∑ t, (e t : EReal) * v t := by
    rw [← mul_sum _ C hC.le]
    refine Finset.sum_congr rfl fun t _ => ?_
    rw [EReal.coe_mul, mul_assoc]
  rw [hCE, hN, ← coe_sum, Ideal.div_coe (mul_pos hC hE).ne', Ideal.div_coe hE.ne', one_mul,
    mul_comm (C : EReal), mul_assoc, ← EReal.coe_mul]
  congr 2
  field_simp

/-- The kernel's named constant is `1 / (8 ln 2)`. -/
theorem scale_eq : (Named.named (F := Ideal) Cert.KernelIdeal.κ "log2e_inv_sqrt_d" (φ := .f32) 0x3E38AA3B#32 : EReal)
    = (((Real.log 2)⁻¹ * (1 / 8) : ℝ) : EReal) := rfl

/-- The weight of a real score is the exponential of an eighth of it. -/
theorem weight_coe (r : ℝ) : Spec.weight (r : EReal) = ((Real.exp (r / 8) : ℝ) : EReal) := by
  have h2 : Real.log 2 ≠ 0 := (Real.log_pos one_lt_two).ne'
  unfold Spec.weight
  rw [scale_eq, ← EReal.coe_mul, Ideal.exp2_coe]
  congr 1
  show (2 : ℝ) ^ (r * ((Real.log 2)⁻¹ * (1 / 8))) = _
  rw [Real.rpow_def_of_pos two_pos]
  congr 1
  field_simp

/-- The pattern `0x41000000` is eight. -/
theorem eight : Ideal.ofBits .f32 0x41000000#32 = ((8 : ℝ) : EReal) := by
  simp [Ideal.ofBits, Ideal.ieee, -EReal.coe_mul]; norm_num

/-- The pattern `0xFF800000` is minus infinity. -/
theorem lowest : Ideal.ofBits .f32 0xFF800000#32 = ⊥ := by
  simp [Ideal.ofBits, Ideal.ieee]

/-- The pattern `0x7F800000` is plus infinity. -/
theorem highest : Ideal.ofBits .f32 0x7F800000#32 = ⊤ := by
  simp [Ideal.ofBits, Ideal.ieee]

end Cert.Softmax

end
-- ==== Proof.Rows.lean ====
/- Taking whole rows of an array at a column of row numbers, and adding rows of an array into another at a column of
   row numbers, read at an index. -/
module

public import Idealize.ShloMosaic.Lib.Pointwise
public import Idealize.ShloMosaic.Lib.Routing.OpsPair

@[expose] public section

noncomputable section

namespace Cert.Rows

open Idealize.ShloMosaic

/-- An axis of a rank-4 array is one of the four. -/
theorem axis4 (a : Fin 4) : a = 0 ∨ a = 1 ∨ a = 2 ∨ a = 3 := by
  revert a; decide

/-- Axis 1 is not among the indexed axes. -/
theorem one_off : ¬ (1 : Fin 4) ∈ [(0 : Fin 4)] := by decide

/-- Axis 2 is not among the indexed axes. -/
theorem two_off : ¬ (2 : Fin 4) ∈ [(0 : Fin 4)] := by decide

/-- Axis 3 is not among the indexed axes. -/
theorem three_off : ¬ (3 : Fin 4) ∈ [(0 : Fin 4)] := by decide

section Take

/-- The dimension numbers of a gather of whole rows of an `[N, A, B, C]` array at `P` row numbers. -/
abbrev takeDims (N A B C P : Nat)
    (wf : GatherDims.WF ⟨4, ![N, A, B, C]⟩ ⟨2, ![P, 1]⟩ ⟨4, ![P, A, B, C]⟩ [1, 2, 3] [0] [] [0] [] 1 ![1, A, B, C]) :
    GatherDims ⟨4, ![N, A, B, C]⟩ ⟨2, ![P, 1]⟩ ⟨4, ![P, A, B, C]⟩ where
  offsetDims := [1, 2, 3]
  collapsedSliceDims := [0]
  operandBatchingDims := []
  startIndicesBatchingDims := []
  startIndexMap := [0]
  indexVectorDim := 1
  sliceSizes := ![1, A, B, C]
  wf := wf

/-- Row `p` of the gather is the operand's row whose number stands at `p`, where that number is a row of it. -/
theorem take_apply {α : Type} {N A B C P : Nat}
    (wf : GatherDims.WF ⟨4, ![N, A, B, C]⟩ ⟨2, ![P, 1]⟩ ⟨4, ![P, A, B, C]⟩ [1, 2, 3] [0] [] [0] [] 1 ![1, A, B, C])
    (x : (⟨4, ![N, A, B, C]⟩ : Shape).Idx → α) (idx : IVec ⟨2, ![P, 1]⟩ 32) (p : Fin P) (a : Fin A) (b : Fin B) (c : Fin C)
    (r : Fin N) (hr : (idx (ix2 p 0)).toInt = (r.val : Int)) :
    Host.gather (takeDims N A B C P wf) x idx (ix4 p a b c) = x (ix4 r a b c) := by
  unfold Host.gather
  congr 1
  funext e
  refine Fin.ext ?_
  show (takeDims N A B C P wf).start (ix4 p a b c) idx e + (takeDims N A B C P wf).batchCoord (ix4 p a b c) e
      + (takeDims N A B C P wf).offCoord (ix4 p a b c) e = _
  rw [GatherDims.batchCoord_eq_zero _ _ _ List.not_mem_nil]
  rcases axis4 e with rfl | rfl | rfl | rfl
  · rw [GatherDims.offCoord_eq_zero _ _ _ (fun h => ((GatherDims.mem_sKept _ _).mp h).1 (List.mem_singleton.mpr rfl))]
    unfold GatherDims.start
    rw [dif_pos (show (0 : Fin 4) ∈ (takeDims N A B C P wf).startIndexMap from List.mem_singleton.mpr rfl)]
    have hsi : (takeDims N A B C P wf).siIdx (ix4 p a b c) ⟨List.idxOf (0 : Fin 4) (takeDims N A B C P wf).startIndexMap,
        List.idxOf_lt_length_iff.2 (List.mem_singleton.mpr rfl)⟩ = ix2 p 0 := by
      funext q; refine Fin.ext ?_
      match q with
      | ⟨0, _⟩ => rfl
      | ⟨1, _⟩ => rfl
    rw [hsi, hr]
    show min (Int.toNat (r.val : Int)) (N - 1) + 0 + 0 = r.val
    have := r.isLt
    simp only [Int.toNat_natCast]
    omega
  all_goals
    unfold GatherDims.start
    first | rw [dif_neg one_off] | rw [dif_neg two_off] | rw [dif_neg three_off]
    simp only [Nat.zero_add]
    rfl

end Take

section Add

/-- The dimension numbers of a scatter of `P` whole rows into an `[N, A, B, C]` array at `P` row numbers. -/
abbrev addDims (N A B C P : Nat)
    (wf : ScatterDims.WF ⟨4, ![N, A, B, C]⟩ ⟨2, ![P, 1]⟩ ⟨4, ![P, A, B, C]⟩ [1, 2, 3] [0] [0] 1) :
    ScatterDims ⟨4, ![N, A, B, C]⟩ ⟨2, ![P, 1]⟩ ⟨4, ![P, A, B, C]⟩ where
  updateWindowDims := [1, 2, 3]
  insertedWindowDims := [0]
  scatterDimsToOperandDims := [0]
  indexVectorDim := 1
  wf := wf

/-- An update lands at an element exactly when its row number is the element's row and its other coordinates are the
    element's. -/
theorem lands {N A B C P : Nat}
    (wf : ScatterDims.WF ⟨4, ![N, A, B, C]⟩ ⟨2, ![P, 1]⟩ ⟨4, ![P, A, B, C]⟩ [1, 2, 3] [0] [0] 1)
    (idx : IVec ⟨2, ![P, 1]⟩ 32) (p : Fin P) (a a' : Fin A) (b b' : Fin B) (c c' : Fin C) (r : Fin N) :
    (addDims N A B C P wf).resultIdx? (ix4 p a b c) idx = some (ix4 r a' b' c')
      ↔ (idx (ix2 p 0)).toInt = (r.val : Int) ∧ a = a' ∧ b = b' ∧ c = c' := by
  have h0 : (addDims N A B C P wf).start (ix4 p a b c) idx 0 + ((addDims N A B C P wf).window (ix4 p a b c) 0 : Int)
      = (idx (ix2 p 0)).toInt := by
    have hs : (addDims N A B C P wf).start (ix4 p a b c) idx 0 = (idx (ix2 p 0)).toInt := by
      unfold ScatterDims.start
      rw [dif_pos (show (0 : Fin 4) ∈ (addDims N A B C P wf).scatterDimsToOperandDims from List.mem_singleton.mpr rfl)]
      congr 2
      funext q; refine Fin.ext ?_
      match q with
      | ⟨0, _⟩ => rfl
      | ⟨1, _⟩ => rfl
    have hw : (addDims N A B C P wf).window (ix4 p a b c) 0 = 0 := by
      unfold ScatterDims.window
      rw [dif_neg fun h => (of_decide_eq_true (List.mem_filter.1 h).2) (List.mem_singleton.mpr rfl)]
    rw [hs, hw]; simp
  have h1 : (addDims N A B C P wf).start (ix4 p a b c) idx 1 + ((addDims N A B C P wf).window (ix4 p a b c) 1 : Int)
      = (a.val : Int) := by
    unfold ScatterDims.start
    rw [dif_neg one_off, Int.zero_add]
    rfl
  have h2 : (addDims N A B C P wf).start (ix4 p a b c) idx 2 + ((addDims N A B C P wf).window (ix4 p a b c) 2 : Int)
      = (b.val : Int) := by
    unfold ScatterDims.start
    rw [dif_neg two_off, Int.zero_add]
    rfl
  have h3 : (addDims N A B C P wf).start (ix4 p a b c) idx 3 + ((addDims N A B C P wf).window (ix4 p a b c) 3 : Int)
      = (c.val : Int) := by
    unfold ScatterDims.start
    rw [dif_neg three_off, Int.zero_add]
    rfl
  rw [Routing.resultIdx?_eq_some]
  constructor
  · intro h
    have e0 := h 0
    have e1 := h 1
    have e2 := h 2
    have e3 := h 3
    rw [h0] at e0; rw [h1] at e1; rw [h2] at e2; rw [h3] at e3
    refine ⟨e0, Fin.ext ?_, Fin.ext ?_, Fin.ext ?_⟩
    · exact_mod_cast e1
    · exact_mod_cast e2
    · exact_mod_cast e3
  · rintro ⟨e, rfl, rfl, rfl⟩ q
    rcases axis4 q with rfl | rfl | rfl | rfl
    · rw [h0, e]; rfl
    · rw [h1]; rfl
    · rw [h2]; rfl
    · rw [h3]; rfl

/-- The rows added in at an element: the element plus the sum, over the rows whose number is the element's row, of
    their entries at its other coordinates. -/
theorem add_apply {N A B C P : Nat}
    (wf : ScatterDims.WF ⟨4, ![N, A, B, C]⟩ ⟨2, ![P, 1]⟩ ⟨4, ![P, A, B, C]⟩ [1, 2, 3] [0] [0] 1)
    (x : FVec Ideal ⟨4, ![N, A, B, C]⟩ .f32) (idx : IVec ⟨2, ![P, 1]⟩ 32) (upd : FVec Ideal ⟨4, ![P, A, B, C]⟩ .f32)
    (r : Fin N) (a : Fin A) (b : Fin B) (c : Fin C) {K : Nat} (row : Fin K → Fin P) (hinj : Function.Injective row)
    (hrow : ∀ p, (idx (ix2 p 0)).toInt = (r.val : Int) ↔ ∃ t, row t = p) :
    Host.scatterAdd (addDims N A B C P wf) x idx upd (ix4 r a b c)
      = (x (ix4 r a b c) : EReal) + ∑ t : Fin K, (upd (ix4 (row t) a b c) : EReal) := by
  show Ideal.hostScatterAdd (addDims N A B C P wf) x idx upd (ix4 r a b c) = _
  unfold Ideal.hostScatterAdd
  congr 1
  symm
  refine Finset.sum_bij (fun t _ => ix4 (row t) a b c) ?_ ?_ ?_ ?_
  · intro t _
    rw [Finset.mem_filter]
    exact ⟨Finset.mem_univ _, (lands wf idx _ _ _ _ _ _ _ _).2 ⟨(hrow _).2 ⟨t, rfl⟩, rfl, rfl, rfl⟩⟩
  · intro t _ t' _ h
    exact hinj ((ix4_inj _ _ _ _ _ _ _ _).1 h).1
  · intro j hj
    rw [Finset.mem_filter] at hj
    obtain ⟨p, a', b', c', rfl⟩ : ∃ (p : Fin P) (a' : Fin A) (b' : Fin B) (c' : Fin C), j = ix4 p a' b' c' :=
      ⟨j 0, j 1, j 2, j 3, eq_ix4 j⟩
    obtain ⟨hp, rfl, rfl, rfl⟩ := (lands wf idx _ _ _ _ _ _ _ _).1 hj.2
    obtain ⟨t, rfl⟩ := (hrow p).1 hp
    exact ⟨t, Finset.mem_univ _, rfl⟩
  · intro t _; rfl

end Add

end Cert.Rows

end
-- ==== Proof.Stages.lean ====
/- The reference program in stages, each read at an index. -/
module

public import proofs.«01_k».proof.Proof.Softmax
public import proofs.«01_k».proof.Proof.Rows
public import proofs.«01_k».proof.Proof.Gen.ReferenceIdeal.Run

@[expose] public section

noncomputable section

namespace Cert.ReferenceIdeal.Stages

open Cert.ReferenceIdeal Cert.ReferenceIdeal.Gen Idealize.ShloMosaic Idealize.ShloMosaic.TcCoe Idealize.SL.Sem

/-- A projection of the sequence with its bias. -/
def lin (x : FVec Ideal S2048x2x1024 .f32) (w : FVec Ideal S1024x1024 .f32) (b : FVec Ideal S1024 .f32) : FVec Ideal S2048x2x1024 .f32 :=
  addf (Host.dotGeneral dot_S2048x2x1024_S1024x1024_S2048x2x1024_2_0_01_1_n_n none x
      (transpose S1024x1024 [1, 0] w transposes_S1024x1024_S1024x1024_1_0))
    (broadcastInDim S2048x2x1024 ![0, 1, 2] bcast_S1x1x1024_S2048x2x1024_0_1_2
      (broadcastInDim S1x1x1024 ![2] bcast_S1024_S1x1x1024_2 b))

/-- The columns of a projection cut in sixteen heads. -/
def heads (y : FVec Ideal S2048x2x1024 .f32) : FVec Ideal S2048x2x16x64 .f32 :=
  shapeCast S2048x2x16x64 y shapeCasts_S2048x2x1024_S2048x2x16x64

/-- A list of row numbers, the negative ones counted from the end, as a column. -/
def ids (q : IVec S65536 32) : IVec S65536x1 32 :=
  broadcastInDim S65536x1 ![0] bcast_S65536_S65536x1_0
    (select (cmpi .slt q (broadcastInDim S65536 ![] bcast_S_S65536 (constantI S_ 32 0#32)))
      (addi q (broadcastInDim S65536 ![] bcast_S_S65536 (constantI S_ 32 2048#32))) q)

/-- The rows of an array at a list of row numbers. -/
def take (y : FVec Ideal S2048x2x16x64 .f32) (q : IVec S65536 32) : FVec Ideal S65536x2x16x64 .f32 :=
  Host.gather gather_S2048x2x16x64_S65536x1_S65536x2x16x64_123_0_n_n_0_1_121664 y (ids q)

/-- The scaled scores of the pairs. -/
def scores (q k : FVec Ideal S65536x2x16x64 .f32) : FVec Ideal S65536x2x16x1 .f32 :=
  Host.divf (broadcastInDim S65536x2x16x1 ![0, 1, 2] bcast_S65536x2x16_S65536x2x16x1_0_1_2
      (Host.dotGeneral dot_S65536x2x16x64_S65536x2x16x64_S65536x2x16_3_3_n_n_012_012 none q k))
    (broadcastInDim S65536x2x16x1 ![] bcast_S_S65536x2x16x1 (constant S_ .f32 0x41000000#32))

/-- The greatest score. -/
def top (s : FVec Ideal S65536x2x16x1 .f32) : FVec Ideal S_ .f32 :=
  Host.reduce FloatOps.maximumf s (constant S_ .f32 0xFF800000#32) reducesTo_S65536x2x16x1_S_d0_1_2_3 h_S_

/-- The unnormalised weights of the pairs. -/
def weights (s : FVec Ideal S65536x2x16x1 .f32) : FVec Ideal S65536x2x16x1 .f32 :=
  Host.exp (subf s (broadcastInDim S65536x2x16x1 ![] bcast_S_S65536x2x16x1 (top s)))

/-- The sum of the weights of each position's pairs. -/
def total (w : FVec Ideal S65536x2x16x1 .f32) (q : IVec S65536 32) : FVec Ideal S2048x2x16x1 .f32 :=
  Host.scatterAdd scatter_S2048x2x16x1_S65536x1_S65536x2x16x1_123_0_0_1
    (broadcastInDim S2048x2x16x1 ![] bcast_S_S2048x2x16x1 (constant S_ .f32 0x00000000#32)) (ids q) w

/-- The weighted sum of the value rows of each position's pairs. -/
def mixed (w : FVec Ideal S65536x2x16x1 .f32) (v : FVec Ideal S65536x2x16x64 .f32) (q : IVec S65536 32) : FVec Ideal S2048x2x16x64 .f32 :=
  Host.scatterAdd scatter_S2048x2x16x64_S65536x1_S65536x2x16x64_123_0_0_1
    (broadcastInDim S2048x2x16x64 ![] bcast_S_S2048x2x16x64 (constant S_ .f32 0x00000000#32)) (ids q)
    (mulf (broadcastInDim S65536x2x16x64 ![0, 1, 2, 3] bcast_S65536x2x16x1_S65536x2x16x64_0_1_2_3 w) v)

/-- The attention, its heads side by side. -/
def joined (n : FVec Ideal S2048x2x16x64 .f32) (d : FVec Ideal S2048x2x16x1 .f32) : FVec Ideal S2048x2x1024 .f32 :=
  shapeCast S2048x2x1024 (Host.divf n (broadcastInDim S2048x2x16x64 ![0, 1, 2, 3] bcast_S2048x2x16x1_S2048x2x16x64_0_1_2_3 d))
    shapeCasts_S2048x2x16x64_S2048x2x1024

/-- The attention of given queries, keys and values. -/
def attend (q k v : FVec Ideal S2048x2x16x64 .f32) (qi ki : IVec S65536 32) : FVec Ideal S2048x2x1024 .f32 :=
  joined (mixed (weights (scores (take q qi) (take k ki))) (take v ki) qi) (total (weights (scores (take q qi) (take k ki))) qi)

/-- The reference program's result is its stages composed. -/
theorem result_eq (m : (ℓ : Loc nD τ sig) → Buf (Elt Ideal) ℓ) (c : Dev nD) :
    Value.res_main_v72 m c
      = lin (attend
          (heads (lin (m ((c.tc : Thread nD τ).loc main_arg0)) (m ((c.tc : Thread nD τ).loc main_arg1)) (m ((c.tc : Thread nD τ).loc main_arg2))))
          (heads (lin (m ((c.tc : Thread nD τ).loc main_arg0)) (m ((c.tc : Thread nD τ).loc main_arg3)) (m ((c.tc : Thread nD τ).loc main_arg4))))
          (heads (lin (m ((c.tc : Thread nD τ).loc main_arg0)) (m ((c.tc : Thread nD τ).loc main_arg5)) (m ((c.tc : Thread nD τ).loc main_arg6))))
          (m ((c.tc : Thread nD τ).loc main_arg9)) (m ((c.tc : Thread nD τ).loc main_arg10)))
        (m ((c.tc : Thread nD τ).loc main_arg7)) (m ((c.tc : Thread nD τ).loc main_arg8)) := by
  unfold Value.res_main_v72
  rfl

set_option maxRecDepth 16384 in
/-- A projection at an index. -/
theorem lin_apply (x : FVec Ideal S2048x2x1024 .f32) (w : FVec Ideal S1024x1024 .f32) (b : FVec Ideal S1024 .f32)
    (s : Fin 2048) (a : Fin 2) (d : Fin 1024) :
    lin x w b (ix3 s a d) = Spec.proj x w s a d + (b (ix1 d) : EReal) := by
  unfold Spec.proj
  pointwise [lin]

set_option maxRecDepth 16384 in
/-- Column `c` of head `h` of a projection. -/
theorem heads_apply (y : FVec Ideal S2048x2x1024 .f32) (s : Fin 2048) (a : Fin 2) (h : Fin 16) (c : Fin 64) :
    heads y (ix4 s a h c) = y (ix3 s a (Spec.col h c)) := by
  unfold Spec.col
  pointwise [heads]

set_option maxRecDepth 16384 in
/-- A row number that is not negative is not moved. -/
theorem ids_apply (q : IVec S65536 32) (p : Fin 65536) (r : Nat) (hr : (q (ix1 p)).toInt = (r : Int)) :
    (ids q (ix2 p 0)).toInt = (r : Int) := by
  pointwise [ids]
  have hs : (q (ix1 p)).slt 0#32 = false := by
    rw [BitVec.slt, hr]
    exact decide_eq_false (by simp)
  rw [show IntOp.cmpi .slt (q (ix1 p)) 0#32 = 0#1 from congrArg BitVec.ofBool hs]
  exact hr

/-- Row `p` taken at a list of row numbers. -/
theorem take_apply (y : FVec Ideal S2048x2x16x64 .f32) (q : IVec S65536 32) (p : Fin 65536) (r : Fin 2048)
    (hr : (q (ix1 p)).toInt = (r.val : Int)) (a : Fin 2) (h : Fin 16) (c : Fin 64) :
    take y q (ix4 p a h c) = y (ix4 r a h c) :=
  Rows.take_apply _ y (ids q) p a h c r (ids_apply q p r.val hr)

set_option maxRecDepth 16384 in
/-- The scaled score of a pair. -/
theorem scores_apply (q k : FVec Ideal S65536x2x16x64 .f32) (p : Fin 65536) (a : Fin 2) (h : Fin 16) :
    scores q k (ix4 p a h 0) = Ideal.div (∑ c : Fin 64, (q (ix4 p a h c) : EReal) * (k (ix4 p a h c) : EReal)) ((8 : ℝ) : EReal) := by
  rw [← Softmax.eight]
  pointwise [scores]

/-- The greatest of scores that are all real is real. -/
theorem top_real (s : FVec Ideal S65536x2x16x1 .f32) (hs : ∀ i, Softmax.IsReal (s i)) : Softmax.IsReal (top s ix0) := by
  unfold top
  rw [Host.reduce_eq_fold]
  have hne : (Finset.univ.filter fun i => reducesTo_S65536x2x16x1_S_d0_1_2_3.drop i = ix0).Nonempty :=
    ⟨ix4 0 0 0 0, Finset.mem_filter.2 ⟨Finset.mem_univ _, funext fun q => q.elim0⟩⟩
  refine Eq.mp (congrArg (fun z => Softmax.IsReal (Finset.fold max z s _)) ?_) (Softmax.IsReal.max hne hs)
  exact Softmax.lowest.symm

set_option maxRecDepth 16384 in
/-- The weight of a pair. -/
theorem weights_apply (s : FVec Ideal S65536x2x16x1 .f32) (p : Fin 65536) (a : Fin 2) (h : Fin 16) :
    weights s (ix4 p a h 0) = Ideal.exp ((s (ix4 p a h 0) : EReal) - (top s ix0 : EReal)) := by
  pointwise [weights]

/-- The pair of position `s` with the `t`-th position of its block. -/
def pair (s : Fin 2048) (t : Fin 32) : Fin 65536 := ⟨s.val * 32 + t.val, by omega⟩

/-- Distinct mates give distinct pairs. -/
theorem pair_inj (s : Fin 2048) : Function.Injective (pair s) := fun t t' h => by
  have h := congrArg Fin.val h
  simp only [pair] at h
  exact Fin.ext (by omega)

/-- The pairs of a position are those whose row number is the position, where pair `p` has row number `p / 32`. -/
theorem pair_iff (q : IVec S65536 32) (hq : ∀ p : Fin 65536, (q (ix1 p)).toInt = ((p.val / 32 : Nat) : Int)) (s : Fin 2048)
    (p : Fin 65536) : (ids q (ix2 p 0)).toInt = (s.val : Int) ↔ ∃ t, pair s t = p := by
  rw [ids_apply q p _ (hq p), Int.natCast_inj]
  constructor
  · intro h
    exact ⟨⟨p.val % 32, by omega⟩, Fin.ext (by simp only [pair]; omega)⟩
  · rintro ⟨t, rfl⟩
    simp only [pair]
    omega

set_option maxRecDepth 16384 in
/-- The sum of the weights of a position's pairs. -/
theorem total_apply (w : FVec Ideal S65536x2x16x1 .f32) (q : IVec S65536 32)
    (hq : ∀ p : Fin 65536, (q (ix1 p)).toInt = ((p.val / 32 : Nat) : Int)) (s : Fin 2048) (a : Fin 2) (h : Fin 16) :
    total w q (ix4 s a h 0) = ∑ t : Fin 32, (w (ix4 (pair s t) a h 0) : EReal) := by
  refine (Rows.add_apply _ _ (ids q) w s a h 0 (pair s) (pair_inj s) (pair_iff q hq s)).trans ?_
  pointwise

set_option maxRecDepth 16384 in
/-- The weighted sum of the value rows of a position's pairs. -/
theorem mixed_apply (w : FVec Ideal S65536x2x16x1 .f32) (v : FVec Ideal S65536x2x16x64 .f32) (q : IVec S65536 32)
    (hq : ∀ p : Fin 65536, (q (ix1 p)).toInt = ((p.val / 32 : Nat) : Int)) (s : Fin 2048) (a : Fin 2) (h : Fin 16) (c : Fin 64) :
    mixed w v q (ix4 s a h c) = ∑ t : Fin 32, (w (ix4 (pair s t) a h 0) : EReal) * (v (ix4 (pair s t) a h c) : EReal) := by
  refine (Rows.add_apply _ _ (ids q) _ s a h c (pair s) (pair_inj s) (pair_iff q hq s)).trans ?_
  pointwise

set_option maxRecDepth 16384 in
/-- The attention at an index: the weighted sum over the sum of the weights. -/
theorem joined_apply (n : FVec Ideal S2048x2x16x64 .f32) (d : FVec Ideal S2048x2x16x1 .f32) (s : Fin 2048) (a : Fin 2) (e : Fin 1024) :
    joined n d (ix3 s a e) = Ideal.div (n (ix4 s a ⟨e.val / 64, by omega⟩ ⟨e.val % 64, by omega⟩))
      (d (ix4 s a ⟨e.val / 64, by omega⟩ 0)) := by
  pointwise [joined]

end Cert.ReferenceIdeal.Stages

end
-- ==== Proof.Equal.lean ====
/- The reference program's stages compute the attention that the fused kernel computes. -/
module

public import proofs.«01_k».proof.Proof.Stages

@[expose] public section

noncomputable section

namespace Cert.Equal

open Cert.ReferenceIdeal Cert.ReferenceIdeal.Stages Cert.Softmax Idealize.ShloMosaic

/-- The row of the first of a pair's two positions. -/
def rowQ (p : Fin 65536) : Fin 2048 := ⟨p.val / 32, by omega⟩

/-- The row of the second of a pair's two positions. -/
def rowK (p : Fin 65536) : Fin 2048 := ⟨p.val / 1024 * 32 + p.val % 32, by omega⟩

/-- The first position of the pair of `s` with its `t`-th mate is `s`. -/
theorem rowQ_pair (s : Fin 2048) (t : Fin 32) : rowQ (pair s t) = s := Fin.ext (by simp only [rowQ, pair]; omega)

/-- The second position of the pair of `s` with its `t`-th mate is that mate. -/
theorem rowK_pair (s : Fin 2048) (t : Fin 32) : rowK (pair s t) = Spec.mate s t :=
  Fin.ext (by simp only [rowK, pair, Spec.mate]; omega)

/-- The score of a pair with a common shift of the key row, and its exponential less a real number, over reals: the shift
    and that number come out as one factor. -/
theorem shifted (Q K B : Fin 64 → ℝ) (M : ℝ) :
    Ideal.exp (Ideal.div (∑ c, (Q c : EReal) * ((K c : EReal) + (B c : EReal))) ((8 : ℝ) : EReal) - (M : EReal))
      = ((Real.exp ((∑ c, Q c * B c) / 8 - M) * Real.exp ((∑ c, Q c * K c) / 8) : ℝ) : EReal) := by
  have h : ∑ c, (Q c : EReal) * ((K c : EReal) + (B c : EReal)) = ((∑ c, Q c * (K c + B c) : ℝ) : EReal) := by
    rw [coe_sum]
    exact Finset.sum_congr rfl fun c _ => by rw [EReal.coe_mul, EReal.coe_add]
  rw [h, Ideal.div_coe (by norm_num), ← EReal.coe_mul, ← EReal.coe_sub, Ideal.exp_coe, ← Real.exp_add]
  congr 2
  simp only [mul_add, Finset.sum_add_distrib]
  ring

section

variable (x : Spec.Seq) (wq wk wv : Spec.Mat) (bq bk bv : FVec Ideal S1024 .f32) (qi ki : IVec S65536 32)

/-- A projection of a real sequence by a real matrix is real. -/
theorem proj_real {w : Spec.Mat} (hx : ∀ i, IsReal (x i)) (hw : ∀ i, IsReal (w i)) (s : Fin 2048) (b : Fin 2) (d : Fin 1024) :
    IsReal (Spec.proj x w s b d) :=
  IsReal.sum fun _ => (hx _).mul (hw _)

/-- Rows of a projection's heads taken at a list of row numbers. -/
theorem taken (w : Spec.Mat) (b : FVec Ideal S1024 .f32) (q : IVec S65536 32) (p : Fin 65536) (r : Fin 2048)
    (hr : (q (ix1 p)).toInt = (r.val : Int)) (a : Fin 2) (h : Fin 16) (c : Fin 64) :
    take (heads (lin x w b)) q (ix4 p a h c) = Spec.proj x w r a (Spec.col h c) + (b (ix1 (Spec.col h c)) : EReal) := by
  rw [take_apply _ q p r hr, heads_apply, lin_apply]

/-- The reference program's attention is the kernel's, where the biases of the queries and values are zero, the rest of
    what makes the scores is real, and the pairs are those of the blocks of 32. -/
theorem attend_eq (hbq : ∀ i, bq i = (0 : EReal)) (hbv : ∀ i, bv i = (0 : EReal)) (hx : ∀ i, IsReal (x i))
    (hwq : ∀ i, IsReal (wq i)) (hwk : ∀ i, IsReal (wk i)) (hbk : ∀ i, IsReal (bk i))
    (hqi : ∀ p, (qi (ix1 p)).toInt = ((rowQ p).val : Int)) (hki : ∀ p, (ki (ix1 p)).toInt = ((rowK p).val : Int))
    (s : Fin 2048) (a : Fin 2) (e : Fin 1024) :
    attend (heads (lin x wq bq)) (heads (lin x wk bk)) (heads (lin x wv bv)) qi ki (ix3 s a e)
      = Spec.attn x wq wk wv s a ⟨e.val / 64, by omega⟩ ⟨e.val % 64, by omega⟩ := by
  generalize hh : (⟨e.val / 64, by omega⟩ : Fin 16) = h
  generalize hc : (⟨e.val % 64, by omega⟩ : Fin 64) = c
  have hq : ∀ p (g : Fin 2) (h : Fin 16) (c : Fin 64),
      take (heads (lin x wq bq)) qi (ix4 p g h c) = Spec.proj x wq (rowQ p) g (Spec.col h c) := fun p g h c => by
    rw [taken x wq bq qi p _ (hqi p), hbq, add_zero]
  have hk : ∀ p (g : Fin 2) (h : Fin 16) (c : Fin 64), take (heads (lin x wk bk)) ki (ix4 p g h c)
      = Spec.proj x wk (rowK p) g (Spec.col h c) + (bk (ix1 (Spec.col h c)) : EReal) := fun p g h c =>
    taken x wk bk ki p _ (hki p) g h c
  have hv : ∀ p (g : Fin 2) (h : Fin 16) (c : Fin 64),
      take (heads (lin x wv bv)) ki (ix4 p g h c) = Spec.proj x wv (rowK p) g (Spec.col h c) := fun p g h c => by
    rw [taken x wv bv ki p _ (hki p), hbv, add_zero]
  have hz : ∀ i, IsReal (scores (take (heads (lin x wq bq)) qi) (take (heads (lin x wk bk)) ki) i) := fun i => by
    obtain ⟨p, g, h, u, rfl⟩ : ∃ (p : Fin 65536) (g : Fin 2) (h : Fin 16) (u : Fin 1), i = ix4 p g h u :=
      ⟨i 0, i 1, i 2, i 3, eq_ix4 i⟩
    obtain rfl : u = 0 := Subsingleton.elim _ _
    rw [scores_apply, Ideal.div_coe (by norm_num)]
    refine (IsReal.sum fun c => ?_).mul ⟨_, rfl⟩
    rw [hq, hk]
    exact (proj_real x hx hwq _ _ _).mul ((proj_real x hx hwk _ _ _).add (hbk _))
  obtain ⟨M, hM⟩ := top_real _ hz
  choose Q hQ using fun c => proj_real x hx hwq s a (Spec.col h c)
  choose K hK using fun t c => proj_real x hx hwk (Spec.mate s t) a (Spec.col h c)
  choose B hB using fun c => hbk (ix1 (Spec.col h c))
  have hw : ∀ t, weights (scores (take (heads (lin x wq bq)) qi) (take (heads (lin x wk bk)) ki)) (ix4 (pair s t) a h 0)
      = ((Real.exp ((∑ c, Q c * B c) / 8 - M) * Real.exp ((∑ c, Q c * K t c) / 8) : ℝ) : EReal) := fun t => by
    rw [weights_apply, hM, scores_apply, ← shifted]
    simp only [hq, hk, rowQ_pair, rowK_pair, hQ, hK, hB]
  have hs : ∀ t, Spec.weight (Spec.score x wq wk s a h t) = ((Real.exp ((∑ c, Q c * K t c) / 8) : ℝ) : EReal) := fun t => by
    rw [← weight_coe, coe_sum]
    unfold Spec.score
    simp only [hQ, hK, EReal.coe_mul]
  have hq' : ∀ p : Fin 65536, (qi (ix1 p)).toInt = ((p.val / 32 : Nat) : Int) := hqi
  unfold attend
  rw [joined_apply, hh, hc, mixed_apply _ _ _ hq', total_apply _ _ hq']
  unfold Spec.attn
  simp only [hw, hs, hv, rowK_pair]
  exact ratio _ (Real.exp_pos _) _ (fun t => Real.exp_pos _) _

/-- The reference program's result is the kernel's, under the same conditions and a zero output bias. -/
theorem result_apply (wx : Spec.Mat) (bx : FVec Ideal S1024 .f32) (hbq : ∀ i, bq i = (0 : EReal)) (hbv : ∀ i, bv i = (0 : EReal))
    (hbx : ∀ i, bx i = (0 : EReal)) (hx : ∀ i, IsReal (x i))
    (hwq : ∀ i, IsReal (wq i)) (hwk : ∀ i, IsReal (wk i)) (hbk : ∀ i, IsReal (bk i))
    (hqi : ∀ p, (qi (ix1 p)).toInt = ((rowQ p).val : Int)) (hki : ∀ p, (ki (ix1 p)).toInt = ((rowK p).val : Int))
    (s : Fin 2048) (a : Fin 2) (n : Fin 1024) :
    lin (attend (heads (lin x wq bq)) (heads (lin x wk bk)) (heads (lin x wv bv)) qi ki) wx bx (ix3 s a n)
      = Spec.out x wq wk wv wx s a n := by
  rw [lin_apply, hbx, add_zero]
  unfold Spec.proj Spec.out
  refine Finset.sum_congr rfl fun e _ => ?_
  rw [attend_eq x wq wk wv bq bk bv qi ki hbq hbv hx hwq hwk hbk hqi hki]

end

end Cert.Equal

end
-- ==== Proof.Given.lean ====
/- What the condition on the arguments says of their elements. -/
module

public import proofs.«01_k».proof.Proof.Equal
public import proofs.«01_k».proof.Proof.Gen.Pre_block_pattern

@[expose] public section

noncomputable section

namespace Cert.Given

open Cert.Pre_block_pattern Cert.Softmax Idealize.ShloMosaic

/-- A comparison bit that is one says its comparison holds. -/
theorem of_bit {P : Prop} [Decidable P] (h : BitVec.ofBool (decide P) = 1#1) : P := by
  by_contra hP
  rw [decide_eq_false hP] at h
  exact absurd h (by decide)

/-- An extended real whose absolute value is below plus infinity is real. -/
theorem real_of_abs {x : EReal} (h : max x (-x) < ⊤) : IsReal x := by
  induction x with
  | bot => simp at h
  | top => simp at h
  | coe r => exact ⟨r, rfl⟩

/-- What the condition says. -/
structure Holds (x : Spec.Seq) (wq : Spec.Mat) (bq : FVec Ideal S1024 .f32) (wk : Spec.Mat) (bk bv bx : FVec Ideal S1024 .f32)
    (qi ki : IVec S65536 32) : Prop where
  bq : ∀ i, bq i = (0 : EReal)
  bv : ∀ i, bv i = (0 : EReal)
  bx : ∀ i, bx i = (0 : EReal)
  x : ∀ i, IsReal (x i)
  wq : ∀ i, IsReal (wq i)
  wk : ∀ i, IsReal (wk i)
  bk : ∀ i, IsReal (bk i)
  qi : ∀ p, (qi (ix1 p)).toInt = ((Equal.rowQ p).val : Int)
  ki : ∀ p, (ki (ix1 p)).toInt = ((Equal.rowK p).val : Int)

/-- The word `32 n + r`, with `n` below 64 and `r` below 32, is that number. -/
theorem word_value (w : BitVec 32) (n r : Nat) (hn : n < 64) (hr : r < 32)
    (h : IntOp.cmpi .eq w (IntOp.addi (IntOp.muli 32#32 (BitVec.ofNat 32 n)) (BitVec.ofNat 32 r)) = 1#1) :
    w.toInt = ((n * 32 + r : Nat) : Int) := by
  have hw : w = IntOp.addi (IntOp.muli 32#32 (BitVec.ofNat 32 n)) (BitVec.ofNat 32 r) := by
    by_contra hne
    have h' : BitVec.ofBool (w == _) = 1#1 := h
    rw [beq_false_of_ne hne] at h'
    exact absurd h' (by decide)
  have hv : IntOp.addi (IntOp.muli 32#32 (BitVec.ofNat 32 n)) (BitVec.ofNat 32 r) = BitVec.ofNat 32 (n * 32 + r) := by
    apply BitVec.eq_of_toNat_eq
    simp only [IntOp.addi, IntOp.muli, BitVec.toNat_add, BitVec.toNat_mul, BitVec.toNat_ofNat]
    omega
  rw [hw, hv, BitVec.toInt_eq_toNat_of_lt (by rw [BitVec.toNat_ofNat]; omega), BitVec.toNat_ofNat]
  congr 1
  omega

set_option maxRecDepth 16384 in
/-- A list all of whose elements compare equal to zero is zero. -/
theorem zero_of (b : FVec Ideal S1024 .f32)
    (h : cmpf .oeq b (broadcastInDim S1024 ![] Facts.bcast_S_S1024 (constant S_ .f32 0x00000000#32)) = fun _ => 1#1)
    (i : S1024.Idx) : b i = (0 : EReal) := by
  have z := congrFun h i
  pointwise at z
  exact of_bit z

/-- An array all of whose elements compare below plus infinity in absolute value is real. -/
theorem real_of {s : Shape} (b : FVec Ideal s .f32) (hb : S_.BroadcastsInDim s (![] : Fin 0 → Fin s.rank))
    (h : cmpf .olt (Host.absf b) (broadcastInDim s ![] hb (constant S_ .f32 0x7F800000#32)) = fun _ => 1#1)
    (i : s.Idx) : IsReal (b i) := by
  have z : BitVec.ofBool (decide (max (b i : EReal) (-(b i : EReal)) < Ideal.ofBits .f32 0x7F800000#32)) = 1#1 := congrFun h i
  rw [highest] at z
  exact real_of_abs (of_bit z)

set_option maxRecDepth 16384 in
/-- The condition on the arguments, all of whose bits are one, says of their elements what `Holds` says. -/
theorem holds (x : FVec Ideal S2048x2x1024 .f32) (wq : FVec Ideal S1024x1024 .f32) (bq : FVec Ideal S1024 .f32)
    (wk : FVec Ideal S1024x1024 .f32) (bk : FVec Ideal S1024 .f32) (wv : FVec Ideal S1024x1024 .f32) (bv : FVec Ideal S1024 .f32)
    (wx : FVec Ideal S1024x1024 .f32) (bx : FVec Ideal S1024 .f32) (qi ki : IVec S65536 32)
    (h : fn x wq bq wk bk wv bv wx bx qi ki
      = (fun _ => 1#1, fun _ => 1#1, fun _ => 1#1, fun _ => 1#1, fun _ => 1#1, fun _ => 1#1, fun _ => 1#1, fun _ => 1#1, fun _ => 1#1)) :
    Holds x wq bq wk bk bv bx qi ki := by
  unfold fn fn_part1 at h
  simp only [Prod.mk.injEq] at h
  obtain ⟨h1, h2, h3, h4, h5, h6, h7, h8, h9⟩ := h
  have z1 := fun p : Fin 65536 =>
    congrFun h1 (ix3 ⟨p.val / 1024, by omega⟩ ⟨p.val / 32 % 32, by omega⟩ ⟨p.val % 32, by omega⟩)
  have z2 := fun p : Fin 65536 =>
    congrFun h2 (ix3 ⟨p.val / 1024, by omega⟩ ⟨p.val / 32 % 32, by omega⟩ ⟨p.val % 32, by omega⟩)
  pointwise at z1 z2
  refine ⟨zero_of _ h3, zero_of _ h4, zero_of _ h5, real_of _ _ h6, real_of _ _ h7, real_of _ _ h8, real_of _ _ h9,
    fun p => ?_, fun p => ?_⟩
  · rw [word_value _ _ _ (by omega) (by omega) (z1 p)]
    congr 1
    simp only [Equal.rowQ]
    omega
  · rw [word_value _ _ _ (by omega) (by omega) (z2 p)]
    rfl

end Cert.Given

end
-- ==== Proof.Claims.lean ====
/- The claims, from the kernel's output array, the reference program's stages and the condition on the arguments. -/
module

public import proofs.«01_k».proof.Defs
public import proofs.«01_k».proof.Proof.Array
public import proofs.«01_k».proof.Proof.Given
public import proofs.«01_k».proof.Proof.Gen.Kernel.Frame
public import Idealize.ShloMosaic.Lib.Quiescent

@[expose] public section

noncomputable section

namespace Cert.Proof.Claims

open Idealize.ShloMosaic Idealize.SL.Sem

/-- The kernel terminates, leaves its arguments unchanged and every counter at zero. -/
theorem kernel_frame : Cert.quiescent_Kernel := fun m ρ _ => Cert.Kernel.Gen.frame m ρ

/-- The kernel over the extended reals terminates, leaves its arguments unchanged and every counter at zero. -/
theorem ideal_frame : Cert.quiescent_KernelIdeal := fun m ρ _ => Cert.KernelIdeal.Gen.frame m ρ

/-- The same of the kernel over the extended reals, with the condition on the arguments assumed. -/
theorem ideal_frame_given : Cert.quiescent_KernelIdeal_pre_block_pattern := fun m ρ _ => Cert.KernelIdeal.Gen.frame m ρ

/-- The reference program terminates, leaves its arguments unchanged and every counter at zero. -/
theorem reference_frame : Cert.quiescent_ReferenceIdeal := fun m ρ _ =>
  (θ_run Cert.ReferenceIdeal.defs _ _).mono (fun r h => ⟨fun c => (h c).2,
      sem_eq_zero_of_no_sems (by decide) r.2⟩)
    (Cert.ReferenceIdeal.Value.run (F := Ideal) m ρ)

/-- The same of the reference program, with the condition on the arguments assumed. -/
theorem reference_frame_given : Cert.quiescent_ReferenceIdeal_pre_block_pattern := fun m ρ _ =>
  reference_frame m ρ trivial

/-- The named scale, log2(e) / 8, stands at the place of its float word. -/
theorem preserves : Cert.preserves_Kernel_KernelIdeal :=
  IdealRules.named_const.statement Cert.KernelIdeal.κ "log2e_inv_sqrt_d" .f32 0x3E38AA3B#32
    (((Real.log 2)⁻¹ * (1 / 8) : ℝ) : EReal) rfl

/-- Under the condition on the arguments the kernel's output array is the reference program's. -/
theorem algebraic : Cert.algebraic_KernelIdeal_ReferenceIdeal_pre_block_pattern := by
  intro m ρ m' ρ' hpre hagree
  refine ⟨fun c => Cert.KernelIdeal.Array.G m c, ?_, ?_⟩
  · exact (θ_run Cert.KernelIdeal.defs _ _).mono
      (fun _ h c => ⟨(h c).1.trans (Cert.KernelIdeal.Array.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    obtain ⟨p1, p2, p3, p4, p5, p6, p7, p8, p9⟩ := hpre c
    have H := Cert.Given.holds _ _ _ _ _ _ _ _ _ _ _
      (Prod.ext p1 (Prod.ext p2 (Prod.ext p3 (Prod.ext p4 (Prod.ext p5 (Prod.ext p6 (Prod.ext p7 (Prod.ext p8 p9))))))))
    rw [Cert.ReferenceIdeal.Stages.result_eq]
    rw [e0, e1, e2, e3, e4, e5, e6, e7, e8, e9, e10]
    funext i
    obtain ⟨s, a, n, rfl⟩ : ∃ (s : Fin 2048) (a : Fin 2) (n : Fin 1024), i = ix3 s a n := ⟨i 0, i 1, i 2, eq_ix3 i⟩
    exact Cert.Equal.result_apply _ _ _ _ _ _ _ _ _ _ _ H.bq H.bv H.bx H.x H.wq H.wk H.bk H.qi H.ki s a n

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_block_pattern
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything claimed of the kernel and the reference program holds. -/
theorem claim : Cert.Claim :=
  ⟨Cert.Kernel.Gen.facts, Cert.KernelIdeal.Gen.facts, Cert.ReferenceIdeal.Gen.facts, Cert.Pre_block_pattern.Gen.facts,
    Claims.kernel_frame, Claims.ideal_frame, Claims.ideal_frame_given, Claims.reference_frame, Claims.reference_frame_given,
    Claims.preserves, Claims.algebraic⟩

end Cert.Proof

end
